-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_layer1 [hPre_finite_layer1 : Cert.Pre_finite_layer1.Facts] (m : (ℓ : Loc Cert.KernelIdeal.nD Cert.KernelIdeal.τ Cert.KernelIdeal.sig) → Buf (Elt Ideal) ℓ) : Prop :=
  ∀ c : Dev Cert.KernelIdeal.nD,
    (Cert.Pre_finite_layer1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_layer1 [hPre_finite_layer1 : Cert.Pre_finite_layer1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_layer1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_layer1 [hKernelIdeal : Cert.KernelIdeal.Facts] [hPre_finite_layer1 : Cert.Pre_finite_layer1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_layer1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_layer1 [hReferenceIdeal : Cert.ReferenceIdeal.Facts] [hPre_finite_layer1 : Cert.Pre_finite_layer1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_layer1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_layer1 [hKernelIdeal : Cert.KernelIdeal.Facts] [hReferenceIdeal : Cert.ReferenceIdeal.Facts] [hPre_finite_layer1 : Cert.Pre_finite_layer1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_layer1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_layer1 : Cert.Pre_finite_layer1.Facts),
    quiescent_Kernel (hKernel := hKernel)
    ∧ quiescent_KernelIdeal (hKernelIdeal := hKernelIdeal)
    ∧ quiescent_KernelIdeal_pre_finite_layer1 (hKernelIdeal := hKernelIdeal) (hPre_finite_layer1 := hPre_finite_layer1)
    ∧ quiescent_ReferenceIdeal (hReferenceIdeal := hReferenceIdeal)
    ∧ quiescent_ReferenceIdeal_pre_finite_layer1 (hReferenceIdeal := hReferenceIdeal) (hPre_finite_layer1 := hPre_finite_layer1)
    ∧ preserves_Kernel_KernelIdeal
    ∧ algebraic_KernelIdeal_ReferenceIdeal_pre_finite_layer1 (hKernelIdeal := hKernelIdeal) (hReferenceIdeal := hReferenceIdeal) (hPre_finite_layer1 := hPre_finite_layer1)
-- ==== Pre_finite_layer1.lean ====
abbrev S10000x256 : Shape := ⟨2, ![10000, 256]⟩
abbrev S2x160000 : Shape := ⟨2, ![2, 160000]⟩
abbrev S2x1x512x256 : Shape := ⟨4, ![2, 1, 512, 256]⟩
abbrev S256 : Shape := ⟨1, ![256]⟩
abbrev S2x1x384x128 : Shape := ⟨4, ![2, 1, 384, 128]⟩
abbrev S128 : Shape := ⟨1, ![128]⟩
abbrev S_ : Shape := ⟨0, ![]⟩
abbrev S2x1x256x256 : Shape := ⟨4, ![2, 1, 256, 256]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  slices_S2x1x512x256_S2x1x256x256_0_0_0_0 : S2x1x512x256.Slices ![0, 0, 0, 0] S2x1x256x256
  bcast_S_S2x1x256x256 : S_.BroadcastsInDim S2x1x256x256 (![] : Fin 0 → Fin S2x1x256x256.rank)
  reducesTo_S2x1x256x256_S_d0_1_2_3 : S2x1x256x256.ReducesTo [0, 1, 2, 3] S_

variable [Facts]

def fn {F : FTy → Type} [FloatOps F] (main_arg0 : FVec F S10000x256 .f32) (main_arg1 : IVec S2x160000 32) (main_arg2 : FVec F S2x1x512x256 .f32) (main_arg3 : FVec F S256 .f32) (main_arg4 : FVec F S2x1x512x256 .f32) (main_arg5 : FVec F S256 .f32) (main_arg6 : FVec F S2x1x512x256 .f32) (main_arg7 : FVec F S256 .f32) (main_arg8 : FVec F S2x1x384x128 .f32) (main_arg9 : FVec F S128 .f32) (main_arg10 : FVec F S2x1x384x128 .f32) (main_arg11 : FVec F S128 .f32) (main_arg12 : FVec F S2x1x384x128 .f32) (main_arg13 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S2x1x256x256 .f32 := (extractStridedSlice S2x1x256x256 ![0, 0, 0, 0] · slices_S2x1x512x256_S2x1x256x256_0_0_0_0) main_arg2
  let main_v5 : FVec F S2x1x256x256 .f32 := Host.absf main_v4
  let main_cst_0 : FVec F S_ .f32 := constant S_ .f32 0x7F800000#32
  let main_v6 : FVec F S2x1x256x256 .f32 := broadcastInDim S2x1x256x256 ![] bcast_S_S2x1x256x256 main_cst_0
  let main_v7 : IVec S2x1x256x256 1 := cmpf .olt main_v5 main_v6
  let main_c_1 : IVec S_ 1 := constantI S_ 1 1#1
  let main_v8 : IVec S_ 1 := (fun x v => Host.reduce IntOp.andi x v reducesTo_S2x1x256x256_S_d0_1_2_3 h_S_) main_v7 main_c_1
  let main_v9 : IVec S_ 1 := andi main_v3 main_v8
  let main_v10 : FVec F S2x1x256x256 .f32 := (extractStridedSlice S2x1x256x256 ![0, 0, 0, 0] · slices_S2x1x512x256_S2x1x256x256_0_0_0_0) main_arg6
  let main_v11 : FVec F S2x1x256x256 .f32 := Host.absf main_v10
  let main_cst_2 : FVec F S_ .f32 := constant S_ .f32 0x7F800000#32
  let main_v12 : FVec F S2x1x256x256 .f32 := broadcastInDim S2x1x256x256 ![] bcast_S_S2x1x256x256 main_cst_2
  let main_v13 : IVec S2x1x256x256 1 := cmpf .olt main_v11 main_v12
  let main_c_3 : IVec S_ 1 := constantI S_ 1 1#1
  let main_v14 : IVec S_ 1 := (fun x v => Host.reduce IntOp.andi x v reducesTo_S2x1x256x256_S_d0_1_2_3 h_S_) main_v13 main_c_3
  let main_v15 : IVec S_ 1 := andi main_v9 main_v14
  main_v15
-- ==== Kernel.lean ====
abbrev S10000x256 : Shape := ⟨2, ![10000, 256]⟩
abbrev S2x160000 : Shape := ⟨2, ![2, 160000]⟩
abbrev S2x1x512x256 : Shape := ⟨4, ![2, 1, 512, 256]⟩
abbrev S256 : Shape := ⟨1, ![256]⟩
abbrev S2x1x384x128 : Shape := ⟨4, ![2, 1, 384, 128]⟩
abbrev S128 : Shape := ⟨1, ![128]⟩
abbrev S10000x128 : Shape := ⟨2, ![10000, 128]⟩
abbrev S5000x256 : Shape := ⟨2, ![5000, 256]⟩
abbrev S2x1x256x256 : Shape := ⟨4, ![2, 1, 256, 256]⟩
abbrev S2x1x256x128 : Shape := ⟨4, ![2, 1, 256, 128]⟩
abbrev S5000x128 : Shape := ⟨2, ![5000, 128]⟩
abbrev S1x1x256x256 : Shape := ⟨4, ![1, 1, 256, 256]⟩
abbrev S256x256 : Shape := ⟨2, ![256, 256]⟩
abbrev S256x512 : Shape := ⟨2, ![256, 512]⟩
abbrev S1x1x256x128 : Shape := ⟨4, ![1, 1, 256, 128]⟩
abbrev S256x128 : Shape := ⟨2, ![256, 128]⟩
abbrev S512 : Shape := ⟨1, ![512]⟩
abbrev S5000x512 : Shape := ⟨2, ![5000, 512]⟩
abbrev S1x512 : Shape := ⟨2, ![1, 512]⟩
abbrev S1x256 : Shape := ⟨2, ![1, 256]⟩

abbrev nBuf : Space → Nat
  | .hbm => 15
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S2x1x512x256, .f32⟩
  | .hbm, ⟨3, _⟩ => ⟨S256, .f32⟩
  | .hbm, ⟨4, _⟩ => ⟨S2x1x512x256, .f32⟩
  | .hbm, ⟨5, _⟩ => ⟨S256, .f32⟩
  | .hbm, ⟨6, _⟩ => ⟨S2x1x512x256, .f32⟩
  | .hbm, ⟨7, _⟩ => ⟨S256, .f32⟩
  | .hbm, ⟨8, _⟩ => ⟨S2x1x384x128, .f32⟩
  | .hbm, ⟨9, _⟩ => ⟨S128, .f32⟩
  | .hbm, ⟨10, _⟩ => ⟨S2x1x384x128, .f32⟩
  | .hbm, ⟨11, _⟩ => ⟨S128, .f32⟩
  | .hbm, ⟨12, _⟩ => ⟨S2x1x384x128, .f32⟩
  | .hbm, ⟨13, _⟩ => ⟨S128, .f32⟩
  | .hbm, ⟨14, _⟩ => ⟨S10000x128, .f32⟩
  | .local _ .vmem, ⟨0, _⟩ => ⟨S5000x256, .f32⟩
  | .local _ .vmem, ⟨1, _⟩ => ⟨S5000x256, .f32⟩
  | .local _ .vmem, ⟨2, _⟩ => ⟨S2x1x256x256, .f32⟩
  | .local _ .vmem, ⟨3, _⟩ => ⟨S256, .f32⟩
  | .local _ .vmem, ⟨4, _⟩ => ⟨S2x1x256x256, .f32⟩
  | .local _ .vmem, ⟨5, _⟩ => ⟨S256, .f32⟩
  | .local _ .vmem, ⟨6, _⟩ => ⟨S2x1x256x128, .f32⟩
  | .local _ .vmem, ⟨7, _⟩ => ⟨S128, .f32⟩
  | .local _ .vmem, ⟨8, _⟩ => ⟨S2x1x256x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S10000x256 : Shape := ⟨2, ![10000, 256]⟩
abbrev S2x160000 : Shape := ⟨2, ![2, 160000]⟩
abbrev S2x1x512x256 : Shape := ⟨4, ![2, 1, 512, 256]⟩
abbrev S256 : Shape := ⟨1, ![256]⟩
abbrev S2x1x384x128 : Shape := ⟨4, ![2, 1, 384, 128]⟩
abbrev S128 : Shape := ⟨1, ![128]⟩
abbrev S_ : Shape := ⟨0, ![]⟩
abbrev S10000x512 : Shape := ⟨2, ![10000, 512]⟩
abbrev S1x1x512x256 : Shape := ⟨4, ![1, 1, 512, 256]⟩
abbrev S512x256 : Shape := ⟨2, ![512, 256]⟩
abbrev S1x256 : Shape := ⟨2, ![1, 256]⟩
abbrev S10000x128 : Shape := ⟨2, ![10000, 128]⟩
abbrev S10000x384 : Shape := ⟨2, ![10000, 384]⟩
abbrev S1x1x384x128 : Shape := ⟨4, ![1, 1, 384, 128]⟩
abbrev S384x128 : Shape := ⟨2, ![384, 128]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S10000x256, .f32⟩
  | 1 => ⟨S2x160000, .i32⟩
  | 2 => ⟨S2x1x512x256, .f32⟩
  | 3 => ⟨S256, .f32⟩
  | 4 => ⟨S2x1x512x256, .f32⟩
  | 5 => ⟨S256, .f32⟩
  | 6 => ⟨S2x1x512x256, .f32⟩
  | 7 => ⟨S256, .f32⟩
  | 8 => ⟨S2x1x384x128, .f32⟩
  | 9 => ⟨S128, .f32⟩
  | 10 => ⟨S2x1x384x128, .f32⟩
  | 11 => ⟨S128, .f32⟩
  | 12 => ⟨S2x1x384x128, .f32⟩
  | 13 => ⟨S128, .f32⟩
  | 14 => ⟨S_, .f32⟩
  | 15 => ⟨S10000x256, .f32⟩
  | 16 => ⟨S10000x512, .f32⟩
  | 17 => ⟨S1x1x512x256, .f32⟩
  | 18 => ⟨S512x256, .f32⟩
  | 19 => ⟨S10000x256, .f32⟩
  | 20 => ⟨S1x1x512x256, .f32⟩
  | 21 => ⟨S512x256, .f32⟩
  | 22 => ⟨S10000x256, .f32⟩
  | 23 => ⟨S10000x256, .f32⟩
  | 24 => ⟨S1x256, .f32⟩
  | 25 => ⟨S10000x256, .f32⟩
  | 26 => ⟨S10000x256, .f32⟩
  | 27 => ⟨S10000x256, .f32⟩
  | 28 => ⟨S10000x256, .f32⟩
  | 29 => ⟨S_, .f32⟩
  | 30 => ⟨S10000x256, .f32⟩
  | 31 => ⟨S10000x256, .f32⟩
  | 32 => ⟨S_, .f32⟩
  | 33 => ⟨S10000x256, .f32⟩
  | 34 => ⟨S10000x256, .f32⟩
  | 35 => ⟨S1x1x512x256, .f32⟩
  | 36 => ⟨S512x256, .f32⟩
  | 37 => ⟨S10000x256, .f32⟩
  | 38 => ⟨S1x1x512x256, .f32⟩
  | 39 => ⟨S512x256, .f32⟩
  | 40 => ⟨S10000x256, .f32⟩
  | 41 => ⟨S10000x256, .f32⟩
  | 42 => ⟨S1x256, .f32⟩
  | 43 => ⟨S10000x256, .f32⟩
  | 44 => ⟨S10000x256, .f32⟩
  | 45 => ⟨S10000x256, .f32⟩
  | 46 => ⟨S10000x256, .f32⟩
  | 47 => ⟨S_, .f32⟩
  | 48 => ⟨S10000x256, .f32⟩
  | 49 => ⟨S10000x256, .f32⟩
  | 50 => ⟨S_, .f32⟩
  | 51 => ⟨S10000x256, .f32⟩
  | 52 => ⟨S10000x256, .f32⟩
  | 53 => ⟨S10000x256, .f32⟩
  | 54 => ⟨S10000x512, .f32⟩
  | 55 => ⟨S1x1x512x256, .f32⟩
  | 56 => ⟨S512x256, .f32⟩
  | 57 => ⟨S10000x256, .f32⟩
  | 58 => ⟨S1x1x512x256, .f32⟩
  | 59 => ⟨S512x256, .f32⟩
  | 60 => ⟨S10000x256, .f32⟩
  | 61 => ⟨S10000x256, .f32⟩
  | 62 => ⟨S1x256, .f32⟩
  | 63 => ⟨S10000x256, .f32⟩
  | 64 => ⟨S10000x256, .f32⟩
  | 65 => ⟨S10000x256, .f32⟩
  | 66 => ⟨S10000x256, .f32⟩
  | 67 => ⟨S_, .f32⟩
  | 68 => ⟨S10000x256, .f32⟩
  | 69 => ⟨S10000x256, .f32⟩
  | 70 => ⟨S10000x256, .f32⟩
  | 71 => ⟨S10000x256, .f32⟩
  | 72 => ⟨S_, .f32⟩
  | 73 => ⟨S10000x256, .f32⟩
  | 74 => ⟨S10000x256, .f32⟩
  | 75 => ⟨S_, .f32⟩
  | 76 => ⟨S10000x128, .f32⟩
  | 77 => ⟨S10000x384, .f32⟩
  | 78 => ⟨S1x1x384x128, .f32⟩
  | 79 => ⟨S384x128, .f32⟩
  | 80 => ⟨S10000x128, .f32⟩
  | 81 => ⟨S1x1x384x128, .f32⟩
  | 82 => ⟨S384x128, .f32⟩
  | 83 => ⟨S10000x128, .f32⟩
  | 84 => ⟨S10000x128, .f32⟩
  | 85 => ⟨S1x128, .f32⟩
  | 86 => ⟨S10000x128, .f32⟩
  | 87 => ⟨S10000x128, .f32⟩
  | 88 => ⟨S10000x128, .f32⟩
  | 89 => ⟨S10000x128, .f32⟩
  | 90 => ⟨S_, .f32⟩
  | 91 => ⟨S10000x128, .f32⟩
  | 92 => ⟨S10000x128, .f32⟩
  | 93 => ⟨S_, .f32⟩
  | 94 => ⟨S10000x128, .f32⟩
  | 95 => ⟨S10000x128, .f32⟩
  | 96 => ⟨S1x1x384x128, .f32⟩
  | 97 => ⟨S384x128, .f32⟩
  | 98 => ⟨S10000x128, .f32⟩
  | 99 => ⟨S1x1x384x128, .f32⟩
  | 100 => ⟨S384x128, .f32⟩
  | 101 => ⟨S10000x128, .f32⟩
  | 102 => ⟨S10000x128, .f32⟩
  | 103 => ⟨S1x128, .f32⟩
  | 104 => ⟨S10000x128, .f32⟩
  | 105 => ⟨S10000x128, .f32⟩
  | 106 => ⟨S10000x128, .f32⟩
  | 107 => ⟨S10000x128, .f32⟩
  | 108 => ⟨S_, .f32⟩
  | 109 => ⟨S10000x128, .f32⟩
  | 110 => ⟨S10000x128, .f32⟩
  | 111 => ⟨S_, .f32⟩
  | 112 => ⟨S10000x128, .f32⟩
  | 113 => ⟨S10000x128, .f32⟩
  | 114 => ⟨S10000x128, .f32⟩
  | 115 => ⟨S10000x384, .f32⟩
  | 116 => ⟨S1x1x384x128, .f32⟩
  | 117 => ⟨S384x128, .f32⟩
  | 118 => ⟨S10000x128, .f32⟩
  | 119 => ⟨S1x1x384x128, .f32⟩
  | 120 => ⟨S384x128, .f32⟩
  | 121 => ⟨S10000x128, .f32⟩
  | 122 => ⟨S10000x128, .f32⟩
  | 123 => ⟨S1x128, .f32⟩
  | 124 => ⟨S10000x128, .f32⟩
  | 125 => ⟨S10000x128, .f32⟩
  | 126 => ⟨S10000x128, .f32⟩
  | 127 => ⟨S10000x128, .f32⟩
  | _ => ⟨S10000x256, .f32⟩

abbrev hbmTy0_1 (i : Nat) : BufTy := match i % 128 with
  | 0 => ⟨S_, .f32⟩
  | 1 => ⟨S10000x128, .f32⟩
  | 2 => ⟨S10000x128, .f32⟩
  | 3 => ⟨S10000x128, .f32⟩
  | 4 => ⟨S10000x128, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_cst : Ref sig .tc := ⟨.hbm, 72, rfl⟩
abbrev main_call0_v0 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_8 : Ref sig .tc := ⟨.hbm, 108, rfl⟩
abbrev main_v83 : Ref sig .tc := ⟨.hbm, 109, rfl⟩
abbrev main_v84 : Ref sig .tc := ⟨.hbm, 110, rfl⟩
abbrev main_cst_9 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_10 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== Proof.Reals.lean ====
/-
  The identities on extended reals that the equation of the two programs rests on: the logistic function against the
  hyperbolic tangent of half its argument, nonnegative real factors against sums, and a sum whose tail is zero.
-/
module

public import Idealize.ShloMosaic.PureOps.Ideal

@[expose] public section

noncomputable section

namespace Cert.Encoder

open Idealize.ShloMosaic

/-- One half, as an extended real. -/
abbrev half : EReal := ((1 / 2 : ℝ) : EReal)

/-- The word of `0.5` in binary32 encodes one half. -/
theorem ofBits_half : Ideal.ofBits .f32 0x3F000000#32 = half := by
  simp [Ideal.ofBits, Ideal.ieee, -EReal.coe_mul]; norm_num

/-- The word of `0.25` in binary32 encodes one quarter. -/
theorem ofBits_quarter : Ideal.ofBits .f32 0x3E800000#32 = ((1 / 4 : ℝ) : EReal) := by
  simp [Ideal.ofBits, Ideal.ieee, -EReal.coe_mul]; norm_num

/-- The word of `1.0` in binary32 encodes one. -/
theorem ofBits_one : Ideal.ofBits .f32 0x3F800000#32 = 1 := by
  simp [Ideal.ofBits, Ideal.ieee, -EReal.coe_mul]; norm_num

/-- The word of `0.0` in binary32 encodes zero. -/
theorem ofBits_zero : Ideal.ofBits .f32 0x00000000#32 = 0 := by
  simp [Ideal.ofBits, Ideal.ieee, -EReal.coe_mul]

/-- The word of positive infinity in binary32 encodes the top element. -/
theorem ofBits_top : Ideal.ofBits .f32 0x7F800000#32 = ⊤ := by
  simp [Ideal.ofBits, Ideal.ieee, -EReal.coe_mul]

/-- On the reals, the hyperbolic tangent of half of `r` is twice the logistic function of `r`, less one. -/
theorem tanh_half_real (r : ℝ) : Real.tanh (1 / 2 * r) = 2 * (1 + Real.exp (-r))⁻¹ - 1 := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have hp := Real.exp_pos (1 / 2 * r)
  have hn := Real.exp_pos (-(1 / 2 * r))
  rw [Real.tanh_eq_sinh_div_cosh, Real.sinh_eq, Real.cosh_eq, h1]
  generalize Real.exp (1 / 2 * r) = a at *
  generalize Real.exp (-(1 / 2 * r)) = b at *
  have : a + b ≠ 0 := by positivity
  have : 1 + b * b ≠ 0 := by positivity
  field_simp
  nlinarith [h2]

/-- The logistic function takes real values between zero and one, at the infinities too. -/
theorem logistic_real (u : EReal) : ∃ s : ℝ, Ideal.logistic u = (s : EReal) ∧ 0 ≤ s ∧ s ≤ 1 := by
  induction u using EReal.rec with
  | bot => exact ⟨0, by simp, le_refl _, zero_le_one⟩
  | top => exact ⟨1, by simp, zero_le_one, le_refl _⟩
  | coe r =>
    have h := Real.exp_pos (-r)
    exact ⟨_, Ideal.logistic_coe r, by positivity, inv_le_one_of_one_le₀ (by linarith)⟩

/-- The hyperbolic tangent takes real values, at the infinities too. -/
theorem tanh_real (u : EReal) : ∃ s : ℝ, Ideal.tanh u = (s : EReal) := by
  induction u using EReal.rec with
  | bot => exact ⟨-1, by simp⟩
  | top => exact ⟨1, by simp⟩
  | coe r => exact ⟨_, Ideal.tanh_coe r⟩

/-- At every extended real, the hyperbolic tangent of half of `u` is twice the logistic function of `u`, less one. -/
theorem tanh_half (u : EReal) {s : ℝ} (hs : Ideal.logistic u = (s : EReal)) :
    Ideal.tanh (half * u) = ((2 * s - 1 : ℝ) : EReal) := by
  induction u using EReal.rec with
  | bot =>
    rw [EReal.coe_mul_bot_of_pos (by norm_num), Ideal.tanh_bot]
    have : s = 0 := by rw [Ideal.logistic_bot] at hs; exact_mod_cast hs.symm
    subst this; norm_num
  | top =>
    rw [EReal.coe_mul_top_of_pos (by norm_num), Ideal.tanh_top]
    have : s = 1 := by rw [Ideal.logistic_top] at hs; exact_mod_cast hs.symm
    subst this; norm_num
  | coe r =>
    rw [← EReal.coe_mul, Ideal.tanh_coe, tanh_half_real]
    rw [Ideal.logistic_coe] at hs
    rw [EReal.coe_eq_coe_iff.mp hs]

/-- A nonnegative real factor distributes over a sum of two extended reals. -/
theorem coe_mul_add {p : ℝ} (hp : 0 ≤ p) (a b : EReal) : (p : EReal) * (a + b) = p * a + p * b :=
  EReal.left_distrib_of_nonneg_of_ne_top (by exact_mod_cast hp) (EReal.coe_ne_top p) a b

/-- One half distributes over a finite sum. -/
theorem half_mul_sum {n : Nat} (f : Fin n → EReal) : ∑ k, half * f k = half * ∑ k, f k := by
  induction (Finset.univ : Finset (Fin n)) using Finset.cons_induction with
  | empty => simp
  | cons a s ha ih => rw [Finset.sum_cons, Finset.sum_cons, ih, coe_mul_add (by norm_num)]

/-- A sum whose terms from the `n`-th on are zero is the sum of its first `n` terms. -/
theorem sum_pad {n m N : Nat} (hN : N = n + m) (f : Fin N → EReal) (g : Fin n → EReal)
    (hl : ∀ (k : Fin n) (h : k.val < N), f ⟨k.val, h⟩ = g k) (hr : ∀ k : Fin N, n ≤ k.val → f k = 0) :
    ∑ k, f k = ∑ k, g k := by
  subst hN
  rw [Fin.sum_univ_add, Finset.sum_eq_zero (s := (Finset.univ : Finset (Fin m))) fun k _ => hr _ (by simp), add_zero]
  exact Finset.sum_congr rfl fun k _ => hl k _

end Cert.Encoder

end
-- ==== Proof.Cell.lean ====
/-
  One entry of one recurrent cell with a zero hidden state, in two forms: the plain one (an update gate by the logistic
  function, a candidate by the hyperbolic tangent, each from the two diffusion weights applied one after the other), and
  the folded one (the two weights added first, the gate by the hyperbolic tangent of half of its argument). The folded
  first layer is twice the plain one, and the folded second layer, on twice the input, is the plain second layer.
-/
module

public import proofs.«01_k».proof.Proof.Reals

@[expose] public section

noncomputable section

namespace Cert.Encoder

open Idealize.ShloMosaic

variable {n : Nat}

/-- The diffusion convolution at one entry: the input against the two weight columns, and the bias. -/
def affine (x a b : Fin n → EReal) (c : EReal) : EReal := ∑ k, x k * a k + ∑ k, x k * b k + c

/-- The new hidden state at one entry, from a zero one: the candidate weighted by one less the update gate. -/
def cell (x a b : Fin n → EReal) (c : EReal) (a' b' : Fin n → EReal) (c' : EReal) : EReal :=
  (1 - Ideal.logistic (affine x a b c)) * Ideal.tanh (affine x a' b' c')

/-- The folded first layer at one entry, rectified. -/
def foldedHidden (x a b : Fin n → EReal) (c : EReal) (a' b' : Fin n → EReal) (c' : EReal) : EReal :=
  max ((1 - Ideal.tanh (∑ k, x k * (half * (a k + b k)) + half * c)) * Ideal.tanh (∑ k, x k * (a' k + b' k) + c')) 0

/-- The folded second layer at one entry. -/
def foldedOut (g a b : Fin n → EReal) (c : EReal) (a' b' : Fin n → EReal) (c' : EReal) : EReal :=
  (half - half * Ideal.tanh (∑ k, g k * (((1 / 4 : ℝ) : EReal) * (a k + b k)) + half * c))
    * Ideal.tanh (∑ k, g k * (half * (a' k + b' k)) + c')

/-- An extended real other than the two infinities. -/
abbrev IsReal (v : EReal) : Prop := ∃ r : ℝ, v = (r : EReal)

/-- A real factor distributes over a sum of two reals. -/
theorem real_mul_add {x a b : EReal} (hx : IsReal x) (ha : IsReal a) (hb : IsReal b) : x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- Half of an affine form: the half goes into every summand and into the bias. -/
theorem half_affine (x a b w : Fin n → EReal) (c : EReal) (h : ∀ k, w k = half * (x k * a k + x k * b k)) :
    ∑ k, w k + half * c = half * affine x a b c := by
  unfold affine
  rw [Finset.sum_congr rfl fun k _ => h k, half_mul_sum, Finset.sum_add_distrib, ← coe_mul_add (by norm_num)]

/-- An affine form with its two sums taken together. -/
theorem whole_affine (x a b w : Fin n → EReal) (c : EReal) (h : ∀ k, w k = x k * a k + x k * b k) :
    ∑ k, w k + c = affine x a b c := by
  unfold affine
  rw [Finset.sum_congr rfl fun k _ => h k, Finset.sum_add_distrib]

/-- On finite features and weights, the plain first layer, rectified, is a nonnegative real and the folded one is its
    double. The biases may be any extended reals. -/
theorem foldedHidden_eq {x a b a' b' : Fin n → EReal} (c c' : EReal) (hx : ∀ k, IsReal (x k)) (ha : ∀ k, IsReal (a k))
    (hb : ∀ k, IsReal (b k)) (ha' : ∀ k, IsReal (a' k)) (hb' : ∀ k, IsReal (b' k)) :
    ∃ p : ℝ, 0 ≤ p ∧ max (cell x a b c a' b' c') 0 = (p : EReal)
      ∧ foldedHidden x a b c a' b' c' = ((2 * p : ℝ) : EReal) := by
  have e1 := half_affine x a b (fun k => x k * (half * (a k + b k))) c fun k => by
    show x k * (half * (a k + b k)) = _
    rw [mul_left_comm, real_mul_add (hx k) (ha k) (hb k)]
  have e2 := whole_affine x a' b' (fun k => x k * (a' k + b' k)) c' fun k => real_mul_add (hx k) (ha' k) (hb' k)
  unfold foldedHidden cell
  rw [e1, e2]
  obtain ⟨s, hs, _, _⟩ := logistic_real (affine x a b c)
  obtain ⟨t, ht⟩ := tanh_real (affine x a' b' c')
  rw [tanh_half _ hs, hs, ht]
  refine ⟨max ((1 - s) * t) 0, le_max_right _ _, ?_, ?_⟩
  · rw [← EReal.coe_one, ← EReal.coe_zero, ← EReal.coe_sub, ← EReal.coe_mul, ← EReal.coe_strictMono.monotone.map_max]
  · rw [← EReal.coe_one, ← EReal.coe_zero, ← EReal.coe_sub, ← EReal.coe_mul, ← EReal.coe_strictMono.monotone.map_max,
      mul_max_of_nonneg _ _ (by norm_num : (0 : ℝ) ≤ 2)]
    congr 2 <;> ring

/-- On a nonnegative real input, the folded second layer of the doubled input is the plain second layer. The weights and
    biases may be any extended reals. -/
theorem foldedOut_eq {h g a b a' b' : Fin n → EReal} (c c' : EReal)
    (hp : ∀ k, ∃ p : ℝ, 0 ≤ p ∧ h k = (p : EReal) ∧ g k = ((2 * p : ℝ) : EReal)) :
    foldedOut g a b c a' b' c' = cell h a b c a' b' c' := by
  have e1 := half_affine h a b (fun k => g k * (((1 / 4 : ℝ) : EReal) * (a k + b k))) c fun k => by
    obtain ⟨p, p0, e, e'⟩ := hp k
    show g k * (((1 / 4 : ℝ) : EReal) * (a k + b k)) = _
    rw [e, e', ← coe_mul_add p0, ← mul_assoc, ← mul_assoc, ← EReal.coe_mul, ← EReal.coe_mul]
    congr 2; ring
  have e2 := whole_affine h a' b' (fun k => g k * (half * (a' k + b' k))) c' fun k => by
    obtain ⟨p, p0, e, e'⟩ := hp k
    show g k * (half * (a' k + b' k)) = _
    rw [e, e', ← coe_mul_add p0, ← mul_assoc, ← EReal.coe_mul]
    congr 2; ring
  unfold foldedOut cell
  rw [e1, e2]
  obtain ⟨s, hs, _, _⟩ := logistic_real (affine h a b c)
  rw [tanh_half _ hs, hs]
  congr 1
  rw [← EReal.coe_one, ← EReal.coe_mul, ← EReal.coe_sub, ← EReal.coe_sub]
  congr 1; ring

end Cert.Encoder

end
-- ==== Proof.Block.lean ====
/-
  What one block of the kernel computes: row `r`, column `j` of the block it stores is the folded second layer, over the
  folded first layer of row `r` of its block of node features.
-/
module

public import proofs.«01_k».proof.Proof.Cell
public import proofs.«01_k».proof.Proof.Gen.KernelIdeal.Skeleton
public import Idealize.ShloMosaic.Lib.Pointwise

@[expose] public section

set_option maxRecDepth 16384

noncomputable section

namespace Cert.Encoder

open Idealize.ShloMosaic Cert.KernelIdeal Cert.KernelIdeal.Gen

/-- The stored block at row `r`, column `j`. The first layer's update weights are the pair `z0 z1`, its candidate
    weights the pair `h0 h1`; the second layer's are `u0 u1` and `c0 c1`; `bz bh dz dh` are the biases. -/
theorem block_apply (x : Vec Ideal S5000x256 .f32) (z0 z1 h0 h1 : Vec Ideal S1x1x256x256 .f32)
    (u0 u1 c0 c1 : Vec Ideal S1x1x256x128 .f32) (bz bh : Vec Ideal S256 .f32) (dz dh : Vec Ideal S128 .f32)
    (r : Fin 5000) (j : Fin 128) :
    k0_pay1 (F := Ideal) x (k0_pay2 z0 z1 h0 h1) (k0_pay3 u0 u1) (k0_pay4 c0) c1 bz bh dz dh (ix2 r j)
      = foldedOut
          (fun k : Fin 256 => foldedHidden (fun i : Fin 256 => x (ix2 r i))
            (fun i => z0 (ix4 0 0 i k)) (fun i => z1 (ix4 0 0 i k)) (bz (ix1 k))
            (fun i => h0 (ix4 0 0 i k)) (fun i => h1 (ix4 0 0 i k)) (bh (ix1 k)))
          (fun k => u0 (ix4 0 0 k j)) (fun k => u1 (ix4 0 0 k j)) (dz (ix1 j))
          (fun k => c0 (ix4 0 0 k j)) (fun k => c1 (ix4 0 0 k j)) (dh (ix1 j)) := by
  pointwise [k0_pay1, k0_pay2, k0_pay3, k0_pay4]
  unfold foldedOut foldedHidden
  simp only [ofBits_half, ofBits_quarter]

end Cert.Encoder

end
-- ==== Proof.Stored.lean ====
/-
  What the kernel's body leaves in its output block: one payload of the contents of its nine input blocks.
-/
module

public import proofs.«01_k».proof.Proof.Gen.KernelIdeal.Value

@[expose] public section

set_option maxRecDepth 16384

noncomputable section

namespace Cert.Encoder

open Idealize.ShloMosaic Idealize.ShloMosaic.TcCoe Idealize.SL.Sem Cert.KernelIdeal Cert.KernelIdeal.Gen

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl

/-- The first, and the second, of the two 256 by 256 weights in a block. -/
def first1 (w : Vec F S2x1x256x256 .f32) : Vec F S1x1x256x256 .f32 :=
  extractStridedSlice S1x1x256x256 ![0, 0, 0, 0] w ⟨rfl, inb_S2x1x256x256_S1x1x256x256_0_0_0_0⟩
def second1 (w : Vec F S2x1x256x256 .f32) : Vec F S1x1x256x256 .f32 :=
  extractStridedSlice S1x1x256x256 ![1, 0, 0, 0] w ⟨rfl, inb_S2x1x256x256_S1x1x256x256_1_0_0_0⟩
/-- The first, and the second, of the two 256 by 128 weights in a block. -/
def first2 (w : Vec F S2x1x256x128 .f32) : Vec F S1x1x256x128 .f32 :=
  extractStridedSlice S1x1x256x128 ![0, 0, 0, 0] w ⟨rfl, inb_S2x1x256x128_S1x1x256x128_0_0_0_0⟩
def second2 (w : Vec F S2x1x256x128 .f32) : Vec F S1x1x256x128 .f32 :=
  extractStridedSlice S1x1x256x128 ![1, 0, 0, 0] w ⟨rfl, inb_S2x1x256x128_S1x1x256x128_1_0_0_0⟩

/-- The output block after the body, of the input blocks' contents. -/
abbrev stored (x : Vec F S5000x256 .f32) (z : Vec F S2x1x256x256 .f32) (bz : Vec F S256 .f32) (h : Vec F S2x1x256x256 .f32)
    (bh : Vec F S256 .f32) (u : Vec F S2x1x256x128 .f32) (dz : Vec F S128 .f32) (c : Vec F S2x1x256x128 .f32)
    (dh : Vec F S128 .f32) : Vec F S5000x128 .f32 :=
  k0_pay1 x (k0_pay2 (first1 z) (second1 z) (first1 h) (second1 h)) (k0_pay3 (first2 u) (second2 u)) (k0_pay4 (first2 c))
    (second2 c) bz bh dz dh

variable (m : (ℓ : Loc nD τ sig) → Buf (Elt F) ℓ)

/-- After the body at grid point `t`, the output block is `stored` of the nine input blocks. -/
theorem outsAt_eq (c : Dev nD) (t : Fin cfg0.N) :
    outsAt0 m c t = stored (iblk m c 0 t) (iblk m c 1 t) (iblk m c 2 t) (iblk m c 3 t) (iblk m c 4 t) (X0_5 m c t)
      (iblk m c 6 t) (X0_7 m c t) (iblk m c 8 t) := by
  unfold outsAt0 out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (X0_5 m c t) (iblk m c 6 t) (X0_7 m c t) (iblk m c 8 t))]
  unfold kernelRun0_A
  dsimp only
  sl_unfold_words
  rw [View.canon_unit_zero zeros2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  rw [View.ld_unit_zero zeros2, View.ld_unit_zero zeros1, View.ld_unit_zero zeros1, View.ld_unit_zero zeros1,
    View.ld_unit_zero zeros1]
  simp only [View.ld_unit]
  rfl

end Cert.Encoder

end
-- ==== Proof.Encoder.lean ====
/-
  The two layers over whole arrays: the folded form, which the kernel's result array is shown to hold, and the plain form,
  which the reference's result is shown to be. Only the first 256 rows of a weight meet the input; the rest would meet the
  zero hidden state.
-/
module

public import proofs.«01_k».proof.Proof.Cell
public import Idealize.ShloMosaic.Lib.Pointwise

@[expose] public section

noncomputable section

namespace Cert.Encoder

open Idealize.ShloMosaic

/-- The arrays' types: features, first-layer weights and biases, second-layer weights and biases, result. -/
abbrev Feat : Type := (⟨2, ![10000, 256]⟩ : Shape).Idx → EReal
abbrev W1 : Type := (⟨4, ![2, 1, 512, 256]⟩ : Shape).Idx → EReal
abbrev B1 : Type := (⟨1, ![256]⟩ : Shape).Idx → EReal
abbrev W2 : Type := (⟨4, ![2, 1, 384, 128]⟩ : Shape).Idx → EReal
abbrev B2 : Type := (⟨1, ![128]⟩ : Shape).Idx → EReal
abbrev Res : Type := (⟨2, ![10000, 128]⟩ : Shape).Idx → EReal

/-- Column `k` of the first 256 rows of the `d`-th first-layer weight. -/
def col1 (w : W1) (d : Fin 2) (k : Fin 256) (i : Fin 256) : EReal := w (ix4 d 0 ⟨i.val, by omega⟩ k)

/-- Column `j` of the first 256 rows of the `d`-th second-layer weight. -/
def col2 (w : W2) (d : Fin 2) (j : Fin 128) (i : Fin 256) : EReal := w (ix4 d 0 ⟨i.val, by omega⟩ j)

/-- The folded encoder's result. -/
def folded (x : Feat) (wz : W1) (bz : B1) (wh : W1) (bh : B1) (uz : W2) (dz : B2) (uh : W2) (dh : B2) : Res := fun y =>
  foldedOut
    (fun k => foldedHidden (fun i => x (ix2 (y 0) i)) (col1 wz 0 k) (col1 wz 1 k) (bz (ix1 k))
      (col1 wh 0 k) (col1 wh 1 k) (bh (ix1 k)))
    (col2 uz 0 (y 1)) (col2 uz 1 (y 1)) (dz (ix1 (y 1))) (col2 uh 0 (y 1)) (col2 uh 1 (y 1)) (dh (ix1 (y 1)))

/-- The plain encoder's first layer, rectified, at node `r`, unit `k`. -/
def hidden (x : Feat) (wz : W1) (bz : B1) (wh : W1) (bh : B1) (r : Fin 10000) (k : Fin 256) : EReal :=
  max (cell (fun i => x (ix2 r i)) (col1 wz 0 k) (col1 wz 1 k) (bz (ix1 k))
    (col1 wh 0 k) (col1 wh 1 k) (bh (ix1 k))) 0

/-- The plain encoder's result. -/
def plain (x : Feat) (wz : W1) (bz : B1) (wh : W1) (bh : B1) (uz : W2) (dz : B2) (uh : W2) (dh : B2) : Res := fun y =>
  cell (hidden x wz bz wh bh (y 0))
    (col2 uz 0 (y 1)) (col2 uz 1 (y 1)) (dz (ix1 (y 1))) (col2 uh 0 (y 1)) (col2 uh 1 (y 1)) (dh (ix1 (y 1)))

/-- THE EQUATION: on finite features and first-layer weights the folded encoder is the plain one. -/
theorem folded_eq_plain (x : Feat) (wz : W1) (bz : B1) (wh : W1) (bh : B1) (uz : W2) (dz : B2) (uh : W2) (dh : B2)
    (hx : ∀ i, IsReal (x i)) (hz : ∀ d k i, IsReal (col1 wz d k i)) (hh : ∀ d k i, IsReal (col1 wh d k i)) :
    folded x wz bz wh bh uz dz uh dh = plain x wz bz wh bh uz dz uh dh := by
  funext y
  exact foldedOut_eq _ _ fun k =>
    foldedHidden_eq _ _ (fun i => hx _) (fun i => hz 0 k i) (fun i => hz 1 k i) (fun i => hh 0 k i) (fun i => hh 1 k i)

end Cert.Encoder

end
-- ==== Proof.Array.lean ====
/-
  What the kernel's result array holds after the run: the folded encoder of the argument arrays. Each grid point's nine
  input blocks are read off the arrays, the block it stores is the folded encoder there, and the two stored blocks tile the
  result.
-/
module

public import proofs.«01_k».proof.Proof.Block
public import proofs.«01_k».proof.Proof.Stored
public import proofs.«01_k».proof.Proof.Encoder
public import Idealize.ShloMosaic.Lib.Pipeline.ValueKit

@[expose] public section

set_option maxRecDepth 16384

noncomputable section

namespace Cert.Encoder

open Idealize.ShloMosaic Idealize.ShloMosaic.TcCoe Idealize.SL.Sem Cert.KernelIdeal Cert.KernelIdeal.Gen

variable (m : (ℓ : Loc nD τ sig) → Buf (Elt Ideal) ℓ)

/-- Which block of its array each window reads at a point: the features' and the result's by rows, the others' first. -/
theorem index_eq : ∀ t : Fin cfg0.N, win0_0.index t = ![t.val, 0] ∧ win0_1.index t = ![0, 0, 0, 0] ∧ win0_2.index t = ![0]
    ∧ win0_3.index t = ![0, 0, 0, 0] ∧ win0_4.index t = ![0] ∧ win0_5.index t = ![0, 0, 0, 0] ∧ win0_6.index t = ![0]
    ∧ win0_7.index t = ![0, 0, 0, 0] ∧ win0_8.index t = ![0] ∧ win0_9.index t = ![t.val, 0] :=
  (by decide +kernel : ∀ t : Fin grid0.N, win0_0.index t = ![t.val, 0] ∧ win0_1.index t = ![0, 0, 0, 0]
    ∧ win0_2.index t = ![0] ∧ win0_3.index t = ![0, 0, 0, 0] ∧ win0_4.index t = ![0] ∧ win0_5.index t = ![0, 0, 0, 0]
    ∧ win0_6.index t = ![0] ∧ win0_7.index t = ![0, 0, 0, 0] ∧ win0_8.index t = ![0] ∧ win0_9.index t = ![t.val, 0])

/-- The folded encoder of device `c`'s argument arrays. -/
abbrev encoded (c : Dev nD) : Buf (Elt Ideal) ((c : Thread nD τ).loc main_v0) :=
  folded (m ((c : Thread nD τ).loc main_arg0)) (m ((c : Thread nD τ).loc main_arg2)) (m ((c : Thread nD τ).loc main_arg3))
    (m ((c : Thread nD τ).loc main_arg6)) (m ((c : Thread nD τ).loc main_arg7)) (m ((c : Thread nD τ).loc main_arg8))
    (m ((c : Thread nD τ).loc main_arg9)) (m ((c : Thread nD τ).loc main_arg12)) (m ((c : Thread nD τ).loc main_arg13))

/-- The block of the update weights of the second layer, at an index. -/
theorem X5_apply (c : Dev nD) (t : Fin cfg0.N) (d : Fin 2) (k : Fin 256) (j : Fin 128) :
    X0_5 m c t (ix4 d 0 k j) = m ((c : Thread nD τ).loc main_arg8) (ix4 d 0 (⟨k.val, by omega⟩ : Fin 384) j) := by
  unfold X0_5 Pipeline.Window.fill
  rw [dif_pos (moved0_5 t _)]
  blk_ext [iblk, V, index_eq t]

/-- The block of the candidate weights of the second layer, at an index. -/
theorem X7_apply (c : Dev nD) (t : Fin cfg0.N) (d : Fin 2) (k : Fin 256) (j : Fin 128) :
    X0_7 m c t (ix4 d 0 k j) = m ((c : Thread nD τ).loc main_arg12) (ix4 d 0 (⟨k.val, by omega⟩ : Fin 384) j) := by
  unfold X0_7 Pipeline.Window.fill
  rw [dif_pos (moved0_7 t _)]
  blk_ext [iblk, V, index_eq t]

/-- The block of the update weights of the first layer, at an index. -/
theorem blk1_apply (c : Dev nD) (t : Fin cfg0.N) (d : Fin 2) (i k : Fin 256) :
    iblk m c 1 t (ix4 d 0 i k) = m ((c : Thread nD τ).loc main_arg2) (ix4 d 0 (⟨i.val, by omega⟩ : Fin 512) k) := by
  blk_ext [iblk, V, index_eq t]

/-- The block of the candidate weights of the first layer, at an index. -/
theorem blk3_apply (c : Dev nD) (t : Fin cfg0.N) (d : Fin 2) (i k : Fin 256) :
    iblk m c 3 t (ix4 d 0 i k) = m ((c : Thread nD τ).loc main_arg6) (ix4 d 0 (⟨i.val, by omega⟩ : Fin 512) k) := by
  blk_ext [iblk, V, index_eq t]

/-- The block of the update bias of the first layer, at an index. -/
theorem blk2_apply (c : Dev nD) (t : Fin cfg0.N) (k : Fin 256) :
    iblk m c 2 t (ix1 k) = m ((c : Thread nD τ).loc main_arg3) (ix1 k) := by
  blk_ext [iblk, V, index_eq t]

/-- The block of the candidate bias of the first layer, at an index. -/
theorem blk4_apply (c : Dev nD) (t : Fin cfg0.N) (k : Fin 256) :
    iblk m c 4 t (ix1 k) = m ((c : Thread nD τ).loc main_arg7) (ix1 k) := by
  blk_ext [iblk, V, index_eq t]

/-- The block of the update bias of the second layer, at an index. -/
theorem blk6_apply (c : Dev nD) (t : Fin cfg0.N) (j : Fin 128) :
    iblk m c 6 t (ix1 j) = m ((c : Thread nD τ).loc main_arg9) (ix1 j) := by
  blk_ext [iblk, V, index_eq t]

/-- The block of the candidate bias of the second layer, at an index. -/
theorem blk8_apply (c : Dev nD) (t : Fin cfg0.N) (j : Fin 128) :
    iblk m c 8 t (ix1 j) = m ((c : Thread nD τ).loc main_arg13) (ix1 j) := by
  blk_ext [iblk, V, index_eq t]

/-- A row of the block of features is the row of the array where the result's block stands. -/
theorem blk0_apply (c : Dev nD) (t : Fin cfg0.N) (r : Fin 5000) (j : Fin 128) (i : Fin 256) :
    iblk m c 0 t (ix2 r i)
      = m ((c : Thread nD τ).loc main_arg0) (ix2 (((((cfg0.win 9).blk t).view.emb (ix2 r j)) 0 : Fin 10000)) i) := by
  blk_ext [iblk, V, index_eq t]

/-- The result's block spans all the columns. -/
theorem emb9_col (t : Fin cfg0.N) (r : Fin 5000) (j : Fin 128) :
    ((((cfg0.win 9).blk t).view.emb (ix2 r j)) 1 : Fin 128) = j := by
  apply Fin.ext
  blk_simp [index_eq t]

/-- The two weights of a block, at an index. -/
theorem first1_apply (w : Vec Ideal S2x1x256x256 .f32) (i k : Fin 256) : first1 w (ix4 0 0 i k) = w (ix4 0 0 i k) := by
  pointwise [first1]
theorem second1_apply (w : Vec Ideal S2x1x256x256 .f32) (i k : Fin 256) : second1 w (ix4 0 0 i k) = w (ix4 1 0 i k) := by
  pointwise [second1]
theorem first2_apply (w : Vec Ideal S2x1x256x128 .f32) (k : Fin 256) (j : Fin 128) :
    first2 w (ix4 0 0 k j) = w (ix4 0 0 k j) := by
  pointwise [first2]
theorem second2_apply (w : Vec Ideal S2x1x256x128 .f32) (k : Fin 256) (j : Fin 128) :
    second2 w (ix4 0 0 k j) = w (ix4 1 0 k j) := by
  pointwise [second2]

/-- A stored block is the folded encoder at `y`, when its input blocks are the arrays' parts that belong to `y`. -/
theorem stored_eq (X : Feat) (Z : W1) (BZ : B1) (H : W1) (BH : B1) (U : W2) (DZ : B2) (C : W2) (DH : B2)
    (y : (⟨2, ![10000, 128]⟩ : Shape).Idx) (x : Vec Ideal S5000x256 .f32) (z : Vec Ideal S2x1x256x256 .f32)
    (bz : Vec Ideal S256 .f32) (h : Vec Ideal S2x1x256x256 .f32) (bh : Vec Ideal S256 .f32)
    (u : Vec Ideal S2x1x256x128 .f32) (dz : Vec Ideal S128 .f32) (w : Vec Ideal S2x1x256x128 .f32)
    (dh : Vec Ideal S128 .f32) (r : Fin 5000) (j : Fin 128) (hj : y 1 = j) (hx : ∀ i, x (ix2 r i) = X (ix2 (y 0) i))
    (hz : ∀ d i k, z (ix4 d 0 i k) = Z (ix4 d 0 ⟨i.val, by omega⟩ k)) (hbz : ∀ k, bz (ix1 k) = BZ (ix1 k))
    (hh : ∀ d i k, h (ix4 d 0 i k) = H (ix4 d 0 ⟨i.val, by omega⟩ k)) (hbh : ∀ k, bh (ix1 k) = BH (ix1 k))
    (hu : ∀ d k j, u (ix4 d 0 k j) = U (ix4 d 0 ⟨k.val, by omega⟩ j)) (hdz : ∀ j, dz (ix1 j) = DZ (ix1 j))
    (hw : ∀ d k j, w (ix4 d 0 k j) = C (ix4 d 0 ⟨k.val, by omega⟩ j)) (hdh : ∀ j, dh (ix1 j) = DH (ix1 j)) :
    stored x z bz h bh u dz w dh (ix2 r j) = folded X Z BZ H BH U DZ C DH y := by
  unfold stored
  rw [block_apply]
  simp only [first1_apply, second1_apply, first2_apply, second2_apply, hx, hz, hbz, hh, hbh, hu, hdz, hw, hdh]
  unfold folded
  rw [hj]
  rfl

/-- The block stored at a point, entry by entry, is the folded encoder where the block stands. -/
theorem outsAt_apply (c : Dev nD) (t : Fin cfg0.N) (r : Fin 5000) (j : Fin 128) :
    outsAt0 m c t (ix2 r j) = encoded m c (((cfg0.win 9).blk t).view.emb (ix2 r j)) := by
  rw [outsAt_eq]
  exact stored_eq _ _ _ _ _ _ _ _ _ _ _ _ _ _ _ _ _ _ _ r j (emb9_col t r j) (blk0_apply m c t r j) (blk1_apply m c t)
    (blk2_apply m c t) (blk3_apply m c t) (blk4_apply m c t) (X5_apply m c t) (blk6_apply m c t) (X7_apply m c t)
    (blk8_apply m c t)

/-- THE KERNEL'S RESULT ARRAY after the run is the folded encoder of the argument arrays. -/
theorem arr_eq (c : Dev nD) : (dats m 0 c).arrAt 9 cfg0.N = encoded m c := by
  refine (dats m 0 c).arrAt_eq_of_covers 9 _ (by decide +kernel) fun t hf y => ?_
  rw [after0_9]
  have hy : y = ix2 (⟨(y 0).val, (y 0).isLt⟩ : Fin 5000) (⟨(y 1).val, (y 1).isLt⟩ : Fin 128) := by
    funext a; fin_cases a <;> rfl
  have h := outsAt_apply m c t (⟨(y 0).val, (y 0).isLt⟩ : Fin 5000) (⟨(y 1).val, (y 1).isLt⟩ : Fin 128)
  simp only [cast_eq]
  generalize encoded m c = e at *
  generalize outsAt0 m c t = o at *
  rw [hy]
  exact h

end Cert.Encoder

end
-- ==== Proof.Finite.lean ====
/-
  What the precondition says, entry by entry: the node features, and the first 256 rows of the first layer's update and
  candidate weights, are real numbers.
-/
module

public import proofs.«01_k».proof.Proof.Cell
public import proofs.«01_k».proof.Proof.Gen.Pre_finite_layer1
public import Idealize.ShloMosaic.Lib.ReduceAll
public import Idealize.ShloMosaic.Lib.ValueIdx
public import Idealize.ShloMosaic.Lib.Pipeline.Value

@[expose] public section

noncomputable section

namespace Cert.Encoder

open Idealize.ShloMosaic Idealize.ShloMosaic.ValueIdx Cert.Pre_finite_layer1

/-- An extended real whose absolute value is below the top element is real. -/
theorem isReal_of_abs_lt {v : EReal} (h : max v (-v) < ⊤) : IsReal v := by
  induction v using EReal.rec with
  | bot => simp at h
  | top => simp at h
  | coe r => exact ⟨r, rfl⟩

/-- A comparison of an absolute value with the word of infinity that came out true: the value compared is real. -/
theorem isReal_of_cmp {v : EReal}
    (h : Ideal.cmp .olt (max v (-v)) (Ideal.ofBits .f32 0x7F800000#32) = 1#1) : IsReal v := by
  rw [ofBits_top] at h
  have h' : BitVec.ofBool (decide (max v (-v) < ⊤)) = 1#1 := h
  by_cases hv : max v (-v) < ⊤
  · exact isReal_of_abs_lt hv
  · rw [decide_eq_false hv] at h'; exact absurd h' (by decide)

theorem scalar_subsingleton : Subsingleton S_.Idx := ⟨fun _ _ => funext fun a => a.elim0⟩

/-- A weight's index whose row is below 256, as an index of the weight's first 256 rows. -/
abbrev rowIdx (i : S2x1x512x256.Idx) (hi : (i 2).val < 256) : S2x1x256x256.Idx := fun a => match a with
  | ⟨0, _⟩ => ⟨(i 0).val, (i 0).isLt⟩
  | ⟨1, _⟩ => ⟨(i 1).val, (i 1).isLt⟩
  | ⟨2, _⟩ => ⟨(i 2).val, hi⟩
  | ⟨3, _⟩ => ⟨(i 3).val, (i 3).isLt⟩

/-- The index has the coordinates of the one it comes from. -/
theorem row_val (i : S2x1x512x256.Idx) (hi : (i 2).val < 256) (a : Fin 4) :
    (i a).val = (![0, 0, 0, 0] : Fin 4 → Nat) a + (rowIdx i hi (a.cast rfl)).val := by
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- Under the precondition the node features and the rows of the first layer's update and candidate weights that meet
    them are real. -/
theorem finite_of_pre (x0 : FVec Ideal S10000x256 .f32) (x1 : IVec S2x160000 32) (x2 : FVec Ideal S2x1x512x256 .f32)
    (x3 : FVec Ideal S256 .f32) (x4 : FVec Ideal S2x1x512x256 .f32) (x5 : FVec Ideal S256 .f32)
    (x6 : FVec Ideal S2x1x512x256 .f32) (x7 : FVec Ideal S256 .f32) (x8 : FVec Ideal S2x1x384x128 .f32)
    (x9 : FVec Ideal S128 .f32) (x10 : FVec Ideal S2x1x384x128 .f32) (x11 : FVec Ideal S128 .f32)
    (x12 : FVec Ideal S2x1x384x128 .f32) (x13 : FVec Ideal S128 .f32) (j : S_.Idx)
    (h : fn (F := Ideal) x0 x1 x2 x3 x4 x5 x6 x7 x8 x9 x10 x11 x12 x13 j = 1#1) :
    (∀ i, IsReal (x0 i))
      ∧ (∀ i : S2x1x512x256.Idx, (i 2).val < 256 → IsReal (x2 i))
      ∧ (∀ i : S2x1x512x256.Idx, (i 2).val < 256 → IsReal (x6 i)) := by
  haveI := scalar_subsingleton
  dsimp only [fn] at h
  obtain ⟨h01, h2⟩ := IntOp.andi_eq_one.mp h
  obtain ⟨h0, h1⟩ := IntOp.andi_eq_one.mp h01
  refine ⟨fun i => isReal_of_cmp (Host.reduce_andi_all _ _ _ _ _ h0 i), fun i hi => ?_, fun i hi => ?_⟩
  · exact extractStridedSlice_apply (s := S2x1x512x256) (t := S2x1x256x256) ![0, 0, 0, 0] x2 _ (rowIdx i hi) i (row_val i hi)
      ▸ isReal_of_cmp (Host.reduce_andi_all _ _ _ _ _ h1 (rowIdx i hi))
  · exact extractStridedSlice_apply (s := S2x1x512x256) (t := S2x1x256x256) ![0, 0, 0, 0] x6 _ (rowIdx i hi) i (row_val i hi)
      ▸ isReal_of_cmp (Host.reduce_andi_all _ _ _ _ _ h2 (rowIdx i hi))

end Cert.Encoder

end
-- ==== Proof.RefFirst.lean ====
/-
  The reference's first layer at an entry: the plain cell, rectified. The input is joined with a zero hidden state, so only
  the first 256 rows of each weight count; the reset gate multiplies zeros and drops out.
-/
module

public import proofs.«01_k».proof.Proof.Gen.ReferenceIdeal.Read
public import proofs.«01_k».proof.Proof.Encoder

@[expose] public section

noncomputable section

namespace Cert.Encoder

open Idealize.ShloMosaic Cert.ReferenceIdeal Cert.ReferenceIdeal.Gen Cert.ReferenceIdeal.Read

variable (x0 : Feat) (x2 : W1) (x3 : B1) (x4 : W1) (x5 : B1) (x6 : W1) (x7 : B1)

/-- The zero hidden state. -/
theorem v0_eq (i : S10000x256.Idx) : val_main_v0 (F := Ideal) i = 0 := by
  rw [val_main_v0_apply, val_main_cst_apply]
  exact ofBits_zero

/-- Two arrays joined along their columns, at an entry of the left and of the right part. -/
theorem join1_left (a b : S10000x256.Idx → EReal) (r : Fin 10000) (k : Fin 512) (h : k.val < 256) :
    concatenate S10000x512 1 [⟨S10000x256, a⟩, ⟨S10000x256, b⟩] concatenates_S10000x256_S10000x256_S10000x512_d1 (ix2 r k)
      = a (ix2 r ⟨k.val, h⟩) :=
  concatenate_pair_apply_left (t := S10000x512) (s₁ := S10000x256) (s₂ := S10000x256) 1 a b
    concatenates_S10000x256_S10000x256_S10000x512_d1 (ix2 r k) rfl (ix2 r ⟨k.val, h⟩) fun c => by fin_cases c <;> rfl
theorem join1_right (a b : S10000x256.Idx → EReal) (r : Fin 10000) (k : Fin 512) (h : 256 ≤ k.val) :
    concatenate S10000x512 1 [⟨S10000x256, a⟩, ⟨S10000x256, b⟩] concatenates_S10000x256_S10000x256_S10000x512_d1 (ix2 r k)
      = b (ix2 r ⟨k.val - 256, by omega⟩) :=
  concatenate_pair_apply_right (t := S10000x512) (s₁ := S10000x256) (s₂ := S10000x256) 1 a b
    concatenates_S10000x256_S10000x256_S10000x512_d1 (ix2 r k) rfl rfl (ix2 r ⟨k.val - 256, by omega⟩)
    (fun c hc => by
      fin_cases c
      · rfl
      · exact absurd rfl hc)
    (show k.val - 256 + 256 = k.val by omega)

/-- The input of the gates is the features, then zeros. -/
theorem v1_left (r : Fin 10000) (k : Fin 512) (h : k.val < 256) :
    val_main_v1 (F := Ideal) x0 (ix2 r k) = x0 (ix2 r ⟨k.val, h⟩) := join1_left _ _ r k h
theorem v1_right (r : Fin 10000) (k : Fin 512) (h : 256 ≤ k.val) : val_main_v1 (F := Ideal) x0 (ix2 r k) = 0 :=
  (join1_right _ _ r k h).trans (v0_eq _)

/-- The reset state is zero. -/
theorem v34_eq (i : S10000x256.Idx) : val_main_v34 (F := Ideal) x0 x4 x5 i = 0 := by
  rw [val_main_v34_apply, v0_eq]
  exact mul_zero _

/-- The input of the candidate is the features, then zeros. -/
theorem v35_left (r : Fin 10000) (k : Fin 512) (h : k.val < 256) :
    val_main_v35 (F := Ideal) x0 x4 x5 (ix2 r k) = x0 (ix2 r ⟨k.val, h⟩) := join1_left _ _ r k h
theorem v35_right (r : Fin 10000) (k : Fin 512) (h : 256 ≤ k.val) :
    val_main_v35 (F := Ideal) x0 x4 x5 (ix2 r k) = 0 :=
  (join1_right _ _ r k h).trans (v34_eq x0 x4 x5 _)

/-- The slices of the weights, at an index. -/
theorem v3_eq (k : Fin 512) (j : Fin 256) : val_main_v3 (F := Ideal) x2 (ix2 k j) = x2 (ix4 0 0 k j) := by
  pointwise [val_main_v3, val_main_v2]
theorem v6_eq (k : Fin 512) (j : Fin 256) : val_main_v6 (F := Ideal) x2 (ix2 k j) = x2 (ix4 1 0 k j) := by
  pointwise [val_main_v6, val_main_v5]
theorem v37_eq (k : Fin 512) (j : Fin 256) : val_main_v37 (F := Ideal) x6 (ix2 k j) = x6 (ix4 0 0 k j) := by
  pointwise [val_main_v37, val_main_v36]
theorem v40_eq (k : Fin 512) (j : Fin 256) : val_main_v40 (F := Ideal) x6 (ix2 k j) = x6 (ix4 1 0 k j) := by
  pointwise [val_main_v40, val_main_v39]

/-- The biases, at an index. -/
theorem v10_eq (r : Fin 10000) (j : Fin 256) : val_main_v10 (F := Ideal) x3 (ix2 r j) = x3 (ix1 j) := by
  pointwise [val_main_v10, val_main_v9]
theorem v44_eq (r : Fin 10000) (j : Fin 256) : val_main_v44 (F := Ideal) x7 (ix2 r j) = x7 (ix1 j) := by
  pointwise [val_main_v44, val_main_v43]

/-- A row whose tail is zero against a weight column: only the first 256 rows count. -/
theorem short_sum1 (v : S10000x512.Idx → EReal) (a : S512x256.Idx → EReal) (d : Fin 2) (r : Fin 10000) (j : Fin 256)
    (hl : ∀ (k : Fin 512) (h : k.val < 256), v (ix2 r k) = x0 (ix2 r ⟨k.val, h⟩))
    (hr : ∀ k : Fin 512, 256 ≤ k.val → v (ix2 r k) = 0) (ha : ∀ k, a (ix2 k j) = x2 (ix4 d 0 k j)) :
    ∑ k : Fin 512, v (ix2 r k) * a (ix2 k j) = ∑ k : Fin 256, x0 (ix2 r k) * col1 x2 d j k := by
  refine sum_pad (n := 256) (m := 256) rfl _ _ (fun k h => ?_) fun k hk => ?_
  · rw [hl _ k.isLt, ha]
    rfl
  · rw [hr _ hk, zero_mul]

/-- The four products, at an entry. -/
theorem v4_eq (r : Fin 10000) (j : Fin 256) :
    val_main_v4 (F := Ideal) x0 x2 (ix2 r j) = ∑ k : Fin 256, x0 (ix2 r k) * col1 x2 0 j k := by
  rw [val_main_v4_apply, ← short_sum1 x0 x2 (val_main_v1 (F := Ideal) x0) (val_main_v3 (F := Ideal) x2) 0 r j
    (v1_left x0 r) (v1_right x0 r) fun k => v3_eq x2 k j]
  exact Finset.sum_congr rfl fun k _ => congrArg₂ (fun a b => val_main_v1 (F := Ideal) x0 a * val_main_v3 (F := Ideal) x2 b)
    (funext fun a => by fin_cases a <;> rfl) (funext fun a => by fin_cases a <;> rfl)
theorem v7_eq (r : Fin 10000) (j : Fin 256) :
    val_main_v7 (F := Ideal) x0 x2 (ix2 r j) = ∑ k : Fin 256, x0 (ix2 r k) * col1 x2 1 j k := by
  rw [val_main_v7_apply, ← short_sum1 x0 x2 (val_main_v1 (F := Ideal) x0) (val_main_v6 (F := Ideal) x2) 1 r j
    (v1_left x0 r) (v1_right x0 r) fun k => v6_eq x2 k j]
  exact Finset.sum_congr rfl fun k _ => congrArg₂ (fun a b => val_main_v1 (F := Ideal) x0 a * val_main_v6 (F := Ideal) x2 b)
    (funext fun a => by fin_cases a <;> rfl) (funext fun a => by fin_cases a <;> rfl)
theorem v38_eq (r : Fin 10000) (j : Fin 256) :
    val_main_v38 (F := Ideal) x0 x4 x5 x6 (ix2 r j) = ∑ k : Fin 256, x0 (ix2 r k) * col1 x6 0 j k := by
  rw [val_main_v38_apply, ← short_sum1 x0 x6 (val_main_v35 (F := Ideal) x0 x4 x5) (val_main_v37 (F := Ideal) x6) 0 r j
    (v35_left x0 x4 x5 r) (v35_right x0 x4 x5 r) fun k => v37_eq x6 k j]
  exact Finset.sum_congr rfl fun k _ =>
    congrArg₂ (fun a b => val_main_v35 (F := Ideal) x0 x4 x5 a * val_main_v37 (F := Ideal) x6 b)
      (funext fun a => by fin_cases a <;> rfl) (funext fun a => by fin_cases a <;> rfl)
theorem v41_eq (r : Fin 10000) (j : Fin 256) :
    val_main_v41 (F := Ideal) x0 x4 x5 x6 (ix2 r j) = ∑ k : Fin 256, x0 (ix2 r k) * col1 x6 1 j k := by
  rw [val_main_v41_apply, ← short_sum1 x0 x6 (val_main_v35 (F := Ideal) x0 x4 x5) (val_main_v40 (F := Ideal) x6) 1 r j
    (v35_left x0 x4 x5 r) (v35_right x0 x4 x5 r) fun k => v40_eq x6 k j]
  exact Finset.sum_congr rfl fun k _ =>
    congrArg₂ (fun a b => val_main_v35 (F := Ideal) x0 x4 x5 a * val_main_v40 (F := Ideal) x6 b)
      (funext fun a => by fin_cases a <;> rfl) (funext fun a => by fin_cases a <;> rfl)

/-- The update gate of the first layer, before and after the logistic function. -/
theorem v11_eq (r : Fin 10000) (j : Fin 256) : val_main_v11 (F := Ideal) x0 x2 x3 (ix2 r j)
    = affine (fun k => x0 (ix2 r k)) (col1 x2 0 j) (col1 x2 1 j) (x3 (ix1 j)) := by
  rw [val_main_v11_apply, val_main_v8_apply, v4_eq, v7_eq, v10_eq]
  rfl
theorem v17_eq (r : Fin 10000) (j : Fin 256) : val_main_v17 (F := Ideal) x0 x2 x3 (ix2 r j)
    = Ideal.logistic (affine (fun k => x0 (ix2 r k)) (col1 x2 0 j) (col1 x2 1 j) (x3 (ix1 j))) := by
  rw [val_main_v17_apply, val_main_v15_apply, val_main_v13_apply, val_main_v12_apply, v11_eq, val_main_v16_apply,
    val_main_v14_apply, val_main_cst_0_apply, val_main_cst_1_apply]
  simp only [show FloatOps.ofBits (F := Ideal) .f32 0x3F800000#32 = (1 : EReal) from ofBits_one]
  rfl

/-- The candidate of the first layer. -/
theorem v46_eq (r : Fin 10000) (j : Fin 256) : val_main_v46 (F := Ideal) x0 x4 x5 x6 x7 (ix2 r j)
    = Ideal.tanh (affine (fun k => x0 (ix2 r k)) (col1 x6 0 j) (col1 x6 1 j) (x7 (ix1 j))) := by
  rw [val_main_v46_apply, val_main_v45_apply, val_main_v42_apply, v38_eq, v41_eq, v44_eq]
  rfl

/-- THE FIRST LAYER of the reference, rectified, at an entry. -/
theorem v52_eq (r : Fin 10000) (j : Fin 256) :
    val_main_v52 (F := Ideal) x0 x2 x3 x4 x5 x6 x7 (ix2 r j) = hidden x0 x2 x3 x6 x7 r j := by
  rw [val_main_v52_apply, val_main_v51_apply, val_main_v47_apply, v0_eq, val_main_v50_apply, val_main_v49_apply, v17_eq,
    v46_eq, val_main_v48_apply, val_main_cst_4_apply, val_main_call0_v0_apply, val_main_call0_cst_apply]
  simp only [show FloatOps.ofBits (F := Ideal) .f32 0x3F800000#32 = (1 : EReal) from ofBits_one,
    show FloatOps.ofBits (F := Ideal) .f32 0x00000000#32 = (0 : EReal) from ofBits_zero]
  exact congrArg (fun v : EReal => max v 0) ((congrArg (· + _) (mul_zero _)).trans (zero_add _))

end Cert.Encoder

end
-- ==== Proof.RefSecond.lean ====
/-
  The reference's result at an entry: the plain cell on the rectified first layer. The first layer is joined with a zero
  hidden state, so only the first 256 rows of each weight count; the reset gate multiplies zeros and drops out.
-/
module

public import proofs.«01_k».proof.Proof.RefFirst

@[expose] public section

noncomputable section

namespace Cert.Encoder

open Idealize.ShloMosaic Cert.ReferenceIdeal Cert.ReferenceIdeal.Gen Cert.ReferenceIdeal.Read

variable (x0 : Feat) (x2 : W1) (x3 : B1) (x4 : W1) (x5 : B1) (x6 : W1) (x7 : B1)
variable (x8 : W2) (x9 : B2) (x10 : W2) (x11 : B2) (x12 : W2) (x13 : B2)

/-- The zero hidden state, and the reset one. -/
theorem v53_eq (i : S10000x128.Idx) : val_main_v53 (F := Ideal) i = 0 := by
  rw [val_main_v53_apply, val_main_cst_5_apply]
  exact ofBits_zero
theorem v87_eq (i : S10000x128.Idx) : val_main_v87 (F := Ideal) x0 x2 x3 x4 x5 x6 x7 x10 x11 i = 0 := by
  rw [val_main_v87_apply, v53_eq]
  exact mul_zero _

/-- Two arrays joined along their columns, at an entry of the left and of the right part. -/
theorem join2_left (a : S10000x256.Idx → EReal) (b : S10000x128.Idx → EReal) (r : Fin 10000) (k : Fin 384)
    (h : k.val < 256) :
    concatenate S10000x384 1 [⟨S10000x256, a⟩, ⟨S10000x128, b⟩] concatenates_S10000x256_S10000x128_S10000x384_d1 (ix2 r k)
      = a (ix2 r ⟨k.val, h⟩) :=
  concatenate_pair_apply_left (t := S10000x384) (s₁ := S10000x256) (s₂ := S10000x128) 1 a b
    concatenates_S10000x256_S10000x128_S10000x384_d1 (ix2 r k) rfl (ix2 r ⟨k.val, h⟩) fun c => by fin_cases c <;> rfl
theorem join2_right (a : S10000x256.Idx → EReal) (b : S10000x128.Idx → EReal) (r : Fin 10000) (k : Fin 384)
    (h : 256 ≤ k.val) :
    concatenate S10000x384 1 [⟨S10000x256, a⟩, ⟨S10000x128, b⟩] concatenates_S10000x256_S10000x128_S10000x384_d1 (ix2 r k)
      = b (ix2 r ⟨k.val - 256, by omega⟩) :=
  concatenate_pair_apply_right (t := S10000x384) (s₁ := S10000x256) (s₂ := S10000x128) 1 a b
    concatenates_S10000x256_S10000x128_S10000x384_d1 (ix2 r k) rfl rfl (ix2 r ⟨k.val - 256, by omega⟩)
    (fun c hc => by
      fin_cases c
      · rfl
      · exact absurd rfl hc)
    (show k.val - 256 + 256 = k.val by omega)

/-- The input of the gates, and the input of the candidate: the first layer, then zeros. -/
theorem v54_left (r : Fin 10000) (k : Fin 384) (h : k.val < 256) :
    val_main_v54 (F := Ideal) x0 x2 x3 x4 x5 x6 x7 (ix2 r k) = hidden x0 x2 x3 x6 x7 r ⟨k.val, h⟩ :=
  (join2_left _ _ r k h).trans (v52_eq x0 x2 x3 x4 x5 x6 x7 r _)
theorem v54_right (r : Fin 10000) (k : Fin 384) (h : 256 ≤ k.val) :
    val_main_v54 (F := Ideal) x0 x2 x3 x4 x5 x6 x7 (ix2 r k) = 0 :=
  (join2_right _ _ r k h).trans (v53_eq _)
theorem v88_left (r : Fin 10000) (k : Fin 384) (h : k.val < 256) :
    val_main_v88 (F := Ideal) x0 x2 x3 x4 x5 x6 x7 x10 x11 (ix2 r k) = hidden x0 x2 x3 x6 x7 r ⟨k.val, h⟩ :=
  (join2_left _ _ r k h).trans (v52_eq x0 x2 x3 x4 x5 x6 x7 r _)
theorem v88_right (r : Fin 10000) (k : Fin 384) (h : 256 ≤ k.val) :
    val_main_v88 (F := Ideal) x0 x2 x3 x4 x5 x6 x7 x10 x11 (ix2 r k) = 0 :=
  (join2_right _ _ r k h).trans (v87_eq x0 x2 x3 x4 x5 x6 x7 x10 x11 _)

/-- The slices of the weights, at an index. -/
theorem v56_eq (k : Fin 384) (j : Fin 128) : val_main_v56 (F := Ideal) x8 (ix2 k j) = x8 (ix4 0 0 k j) := by
  pointwise [val_main_v56, val_main_v55]
theorem v59_eq (k : Fin 384) (j : Fin 128) : val_main_v59 (F := Ideal) x8 (ix2 k j) = x8 (ix4 1 0 k j) := by
  pointwise [val_main_v59, val_main_v58]
theorem v90_eq (k : Fin 384) (j : Fin 128) : val_main_v90 (F := Ideal) x12 (ix2 k j) = x12 (ix4 0 0 k j) := by
  pointwise [val_main_v90, val_main_v89]
theorem v93_eq (k : Fin 384) (j : Fin 128) : val_main_v93 (F := Ideal) x12 (ix2 k j) = x12 (ix4 1 0 k j) := by
  pointwise [val_main_v93, val_main_v92]

/-- The biases, at an index. -/
theorem v63_eq (r : Fin 10000) (j : Fin 128) : val_main_v63 (F := Ideal) x9 (ix2 r j) = x9 (ix1 j) := by
  pointwise [val_main_v63, val_main_v62]
theorem v97_eq (r : Fin 10000) (j : Fin 128) : val_main_v97 (F := Ideal) x13 (ix2 r j) = x13 (ix1 j) := by
  pointwise [val_main_v97, val_main_v96]

/-- A row whose tail is zero against a weight column: only the first 256 rows count. -/
theorem short_sum2 (g : Fin 256 → EReal) (v : S10000x384.Idx → EReal) (a : S384x128.Idx → EReal) (d : Fin 2)
    (r : Fin 10000) (j : Fin 128) (hl : ∀ (k : Fin 384) (h : k.val < 256), v (ix2 r k) = g ⟨k.val, h⟩)
    (hr : ∀ k : Fin 384, 256 ≤ k.val → v (ix2 r k) = 0) (ha : ∀ k, a (ix2 k j) = x8 (ix4 d 0 k j)) :
    ∑ k : Fin 384, v (ix2 r k) * a (ix2 k j) = ∑ k : Fin 256, g k * col2 x8 d j k := by
  refine sum_pad (n := 256) (m := 128) rfl _ _ (fun k h => ?_) fun k hk => ?_
  · rw [hl _ k.isLt, ha]
    rfl
  · rw [hr _ hk, zero_mul]

/-- The four products, at an entry. -/
theorem v57_eq (r : Fin 10000) (j : Fin 128) : val_main_v57 (F := Ideal) x0 x2 x3 x4 x5 x6 x7 x8 (ix2 r j)
    = ∑ k : Fin 256, hidden x0 x2 x3 x6 x7 r k * col2 x8 0 j k := by
  rw [val_main_v57_apply, ← short_sum2 x8 _ (val_main_v54 (F := Ideal) x0 x2 x3 x4 x5 x6 x7) (val_main_v56 (F := Ideal) x8)
    0 r j (v54_left x0 x2 x3 x4 x5 x6 x7 r) (v54_right x0 x2 x3 x4 x5 x6 x7 r) fun k => v56_eq x8 k j]
  exact Finset.sum_congr rfl fun k _ =>
    congrArg₂ (fun a b => val_main_v54 (F := Ideal) x0 x2 x3 x4 x5 x6 x7 a * val_main_v56 (F := Ideal) x8 b)
      (funext fun a => by fin_cases a <;> rfl) (funext fun a => by fin_cases a <;> rfl)
theorem v60_eq (r : Fin 10000) (j : Fin 128) : val_main_v60 (F := Ideal) x0 x2 x3 x4 x5 x6 x7 x8 (ix2 r j)
    = ∑ k : Fin 256, hidden x0 x2 x3 x6 x7 r k * col2 x8 1 j k := by
  rw [val_main_v60_apply, ← short_sum2 x8 _ (val_main_v54 (F := Ideal) x0 x2 x3 x4 x5 x6 x7) (val_main_v59 (F := Ideal) x8)
    1 r j (v54_left x0 x2 x3 x4 x5 x6 x7 r) (v54_right x0 x2 x3 x4 x5 x6 x7 r) fun k => v59_eq x8 k j]
  exact Finset.sum_congr rfl fun k _ =>
    congrArg₂ (fun a b => val_main_v54 (F := Ideal) x0 x2 x3 x4 x5 x6 x7 a * val_main_v59 (F := Ideal) x8 b)
      (funext fun a => by fin_cases a <;> rfl) (funext fun a => by fin_cases a <;> rfl)
theorem v91_eq (r : Fin 10000) (j : Fin 128) : val_main_v91 (F := Ideal) x0 x2 x3 x4 x5 x6 x7 x10 x11 x12 (ix2 r j)
    = ∑ k : Fin 256, hidden x0 x2 x3 x6 x7 r k * col2 x12 0 j k := by
  rw [val_main_v91_apply, ← short_sum2 x12 _ (val_main_v88 (F := Ideal) x0 x2 x3 x4 x5 x6 x7 x10 x11)
    (val_main_v90 (F := Ideal) x12) 0 r j (v88_left x0 x2 x3 x4 x5 x6 x7 x10 x11 r)
    (v88_right x0 x2 x3 x4 x5 x6 x7 x10 x11 r) fun k => v90_eq x12 k j]
  exact Finset.sum_congr rfl fun k _ =>
    congrArg₂ (fun a b => val_main_v88 (F := Ideal) x0 x2 x3 x4 x5 x6 x7 x10 x11 a * val_main_v90 (F := Ideal) x12 b)
      (funext fun a => by fin_cases a <;> rfl) (funext fun a => by fin_cases a <;> rfl)
theorem v94_eq (r : Fin 10000) (j : Fin 128) : val_main_v94 (F := Ideal) x0 x2 x3 x4 x5 x6 x7 x10 x11 x12 (ix2 r j)
    = ∑ k : Fin 256, hidden x0 x2 x3 x6 x7 r k * col2 x12 1 j k := by
  rw [val_main_v94_apply, ← short_sum2 x12 _ (val_main_v88 (F := Ideal) x0 x2 x3 x4 x5 x6 x7 x10 x11)
    (val_main_v93 (F := Ideal) x12) 1 r j (v88_left x0 x2 x3 x4 x5 x6 x7 x10 x11 r)
    (v88_right x0 x2 x3 x4 x5 x6 x7 x10 x11 r) fun k => v93_eq x12 k j]
  exact Finset.sum_congr rfl fun k _ =>
    congrArg₂ (fun a b => val_main_v88 (F := Ideal) x0 x2 x3 x4 x5 x6 x7 x10 x11 a * val_main_v93 (F := Ideal) x12 b)
      (funext fun a => by fin_cases a <;> rfl) (funext fun a => by fin_cases a <;> rfl)

/-- The update gate of the second layer, before and after the logistic function. -/
theorem v64_eq (r : Fin 10000) (j : Fin 128) : val_main_v64 (F := Ideal) x0 x2 x3 x4 x5 x6 x7 x8 x9 (ix2 r j)
    = affine (hidden x0 x2 x3 x6 x7 r) (col2 x8 0 j) (col2 x8 1 j) (x9 (ix1 j)) := by
  rw [val_main_v64_apply, val_main_v61_apply, v57_eq, v60_eq, v63_eq]
  rfl
theorem v70_eq (r : Fin 10000) (j : Fin 128) : val_main_v70 (F := Ideal) x0 x2 x3 x4 x5 x6 x7 x8 x9 (ix2 r j)
    = Ideal.logistic (affine (hidden x0 x2 x3 x6 x7 r) (col2 x8 0 j) (col2 x8 1 j) (x9 (ix1 j))) := by
  rw [val_main_v70_apply, val_main_v68_apply, val_main_v66_apply, val_main_v65_apply, v64_eq, val_main_v69_apply,
    val_main_v67_apply, val_main_cst_6_apply, val_main_cst_7_apply]
  simp only [show FloatOps.ofBits (F := Ideal) .f32 0x3F800000#32 = (1 : EReal) from ofBits_one]
  rfl

/-- The candidate of the second layer. -/
theorem v99_eq (r : Fin 10000) (j : Fin 128) : val_main_v99 (F := Ideal) x0 x2 x3 x4 x5 x6 x7 x10 x11 x12 x13 (ix2 r j)
    = Ideal.tanh (affine (hidden x0 x2 x3 x6 x7 r) (col2 x12 0 j) (col2 x12 1 j) (x13 (ix1 j))) := by
  rw [val_main_v99_apply, val_main_v98_apply, val_main_v95_apply, v91_eq, v94_eq, v97_eq]
  rfl

/-- THE REFERENCE'S RESULT is the plain encoder. -/
theorem v104_eq : val_main_v104 (F := Ideal) x0 x2 x3 x4 x5 x6 x7 x8 x9 x10 x11 x12 x13
    = plain x0 x2 x3 x6 x7 x8 x9 x12 x13 := by
  funext i
  obtain ⟨r, j, rfl⟩ : ∃ (r : Fin 10000) (j : Fin 128), i = ix2 r j :=
    ⟨i 0, i 1, funext fun a => by fin_cases a <;> rfl⟩
  rw [val_main_v104_apply, val_main_v100_apply, v53_eq, val_main_v103_apply, val_main_v102_apply, v70_eq, v99_eq,
    val_main_v101_apply, val_main_cst_10_apply]
  simp only [show FloatOps.ofBits (F := Ideal) .f32 0x3F800000#32 = (1 : EReal) from ofBits_one]
  exact (congrArg (· + _) (mul_zero _)).trans (zero_add _)

end Cert.Encoder

end
-- ==== Proof.Equation.lean ====
/-
  The two programs' results agree: from argument arrays that satisfy the precondition, what the kernel's result array holds
  is what the reference computes.
-/
module

public import proofs.«01_k».proof.Defs
public import proofs.«01_k».proof.Proof.Array
public import proofs.«01_k».proof.Proof.Finite
public import proofs.«01_k».proof.Proof.RefSecond

@[expose] public section

noncomputable section

namespace Cert.Encoder

open Idealize.ShloMosaic Idealize.ShloMosaic.TcCoe Idealize.SL.Sem Cert.KernelIdeal Cert.KernelIdeal.Gen

variable (m : (ℓ : Loc nD τ sig) → Buf (Elt Ideal) ℓ)

/-- Under the precondition the kernel's result array is the plain encoder of the argument arrays. -/
theorem encoded_eq (c : Dev nD)
    (h : letI := Cert.Pre_finite_layer1.Gen.facts; Cert.Pre_KernelIdeal_finite_layer1 m) :
    encoded m c = plain (m ((c : Thread nD τ).loc main_arg0)) (m ((c : Thread nD τ).loc main_arg2))
      (m ((c : Thread nD τ).loc main_arg3)) (m ((c : Thread nD τ).loc main_arg6)) (m ((c : Thread nD τ).loc main_arg7))
      (m ((c : Thread nD τ).loc main_arg8)) (m ((c : Thread nD τ).loc main_arg9)) (m ((c : Thread nD τ).loc main_arg12))
      (m ((c : Thread nD τ).loc main_arg13)) := by
  obtain ⟨hx, hz, hh⟩ := finite_of_pre _ _ _ _ _ _ _ _ _ _ _ _ _ _ _ (congrFun (h c) fun a => a.elim0)
  exact folded_eq_plain _ _ _ _ _ _ _ _ _ hx (fun d k i => hz _ i.isLt) fun d k i => hh _ i.isLt

end Cert.Encoder

end
-- ==== Proof.lean ====
/-
  The certificate of the fused two-layer recurrent encoder. Both programs run to their end from every memory and leave their
  arguments unchanged; the idealized kernel is the kernel read over the extended reals; and from memories that agree on the
  arguments and satisfy the precondition, the kernel and the reference end with the same result, the plain encoder of the
  arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_layer1
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end from every memory, its arguments unchanged and its counters at zero. -/
theorem reference_frame : @Cert.quiescent_ReferenceIdeal Cert.ReferenceIdeal.Gen.facts := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments, and under the precondition, both programs end with the plain encoder of the
    arguments as their result. -/
theorem equal_results : @Cert.algebraic_KernelIdeal_ReferenceIdeal_pre_finite_layer1 Cert.KernelIdeal.Gen.facts
    Cert.ReferenceIdeal.Gen.facts Cert.Pre_finite_layer1.Gen.facts := by
  intro m ρ m' ρ' hpre hagree
  refine ⟨fun c => Cert.Encoder.encoded m c, ?_, ?_⟩
  · refine (θ_run Cert.KernelIdeal.defs _ _).mono (fun r h c => ?_) (Cert.KernelIdeal.Value.run_blocks (F := Ideal) m ρ)
    exact ⟨(h c).1.trans (Cert.Encoder.arr_eq m c), (h c).2⟩
  · refine (θ_run Cert.ReferenceIdeal.defs _ _).mono (fun r h c => ?_) (Cert.ReferenceIdeal.Value.run (F := Ideal) m' ρ')
    refine ⟨(h c).1.trans ?_, (h c).2⟩
    obtain ⟨h0, _, h2, h3, h4, h5, h6, h7, h8, h9, h10, h11, h12, h13⟩ := hagree c
    rw [Cert.ReferenceIdeal.Read.val_main_v104_eq, h0, h2, h3, h4, h5, h6, h7, h8, h9, h10, h11, h12, h13]
    exact (Cert.Encoder.v104_eq _ _ _ _ _ _ _ _ _ _ _ _ _).trans (Cert.Encoder.encoded_eq m c hpre).symm

/-- Every claim of the certificate. -/
theorem claim : Cert.Claim :=
  ⟨Cert.Kernel.Gen.facts, Cert.KernelIdeal.Gen.facts, Cert.ReferenceIdeal.Gen.facts, Cert.Pre_finite_layer1.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, equal_results⟩

end Cert.Proof

end
